-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Reference (m : (ℓ : Loc Cert.Reference.nD Cert.Reference.τ Cert.Reference.sig) → Buf (Elt Bits) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)) (v7 : (c : Dev Cert.KernelIdeal.nD) → Buf (Elt Ideal) ((c.tc : Thread Cert.KernelIdeal.nD Cert.KernelIdeal.τ).loc Cert.KernelIdeal.main_v0_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_v0_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_v2) = v2 c
          ∧ r.2.mem ((c.tc : Thread Cert.ReferenceIdeal.nD Cert.ReferenceIdeal.τ).loc Cert.ReferenceIdeal.main_v3) = v3 c
          ∧ r.2.mem ((c.tc : Thread Cert.ReferenceIdeal.nD Cert.ReferenceIdeal.τ).loc Cert.ReferenceIdeal.main_v4) = v4 c
          ∧ r.2.mem ((c.tc : Thread Cert.ReferenceIdeal.nD Cert.ReferenceIdeal.τ).loc Cert.ReferenceIdeal.main_v5) = v5 c
          ∧ r.2.mem ((c.tc : Thread Cert.ReferenceIdeal.nD Cert.ReferenceIdeal.τ).loc Cert.ReferenceIdeal.main_v6) = v6 c
          ∧ r.2.mem ((c.tc : Thread Cert.ReferenceIdeal.nD Cert.ReferenceIdeal.τ).loc Cert.ReferenceIdeal.main_v7) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v0_0)) (v1 : (c : Dev Cert.Kernel.nD) → Buf (Elt Bits) ((c.tc : Thread Cert.Kernel.nD Cert.Kernel.τ).loc Cert.Kernel.main_v0_1)) (v2 : (c : Dev Cert.Kernel.nD) → Buf (Elt Bits) ((c.tc : Thread Cert.Kernel.nD Cert.Kernel.τ).loc Cert.Kernel.main_v0_2)) (v3 : (c : Dev Cert.Kernel.nD) → Buf (Elt Bits) ((c.tc : Thread Cert.Kernel.nD Cert.Kernel.τ).loc Cert.Kernel.main_v0_3)) (v4 : (c : Dev Cert.Kernel.nD) → Buf (Elt Bits) ((c.tc : Thread Cert.Kernel.nD Cert.Kernel.τ).loc Cert.Kernel.main_v0_4)) (v5 : (c : Dev Cert.Kernel.nD) → Buf (Elt Bits) ((c.tc : Thread Cert.Kernel.nD Cert.Kernel.τ).loc Cert.Kernel.main_v0_5)) (v6 : (c : Dev Cert.Kernel.nD) → Buf (Elt Bits) ((c.tc : Thread Cert.Kernel.nD Cert.Kernel.τ).loc Cert.Kernel.main_v0_6)) (v7 : (c : Dev Cert.Kernel.nD) → Buf (Elt Bits) ((c.tc : Thread Cert.Kernel.nD Cert.Kernel.τ).loc Cert.Kernel.main_v0_7)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0_0) = v0 c
          ∧ r.2.mem ((c.tc : Thread Cert.Kernel.nD Cert.Kernel.τ).loc Cert.Kernel.main_v0_1) = v1 c
          ∧ r.2.mem ((c.tc : Thread Cert.Kernel.nD Cert.Kernel.τ).loc Cert.Kernel.main_v0_2) = v2 c
          ∧ r.2.mem ((c.tc : Thread Cert.Kernel.nD Cert.Kernel.τ).loc Cert.Kernel.main_v0_3) = v3 c
          ∧ r.2.mem ((c.tc : Thread Cert.Kernel.nD Cert.Kernel.τ).loc Cert.Kernel.main_v0_4) = v4 c
          ∧ r.2.mem ((c.tc : Thread Cert.Kernel.nD Cert.Kernel.τ).loc Cert.Kernel.main_v0_5) = v5 c
          ∧ r.2.mem ((c.tc : Thread Cert.Kernel.nD Cert.Kernel.τ).loc Cert.Kernel.main_v0_6) = v6 c
          ∧ r.2.mem ((c.tc : Thread Cert.Kernel.nD Cert.Kernel.τ).loc Cert.Kernel.main_v0_7) = v7 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v0) = v0 c
          ∧ r.2.mem ((c.tc : Thread Cert.Reference.nD Cert.Reference.τ).loc Cert.Reference.main_v1) = v1 c
          ∧ r.2.mem ((c.tc : Thread Cert.Reference.nD Cert.Reference.τ).loc Cert.Reference.main_v2) = v2 c
          ∧ r.2.mem ((c.tc : Thread Cert.Reference.nD Cert.Reference.τ).loc Cert.Reference.main_v3) = v3 c
          ∧ r.2.mem ((c.tc : Thread Cert.Reference.nD Cert.Reference.τ).loc Cert.Reference.main_v4) = v4 c
          ∧ r.2.mem ((c.tc : Thread Cert.Reference.nD Cert.Reference.τ).loc Cert.Reference.main_v5) = v5 c
          ∧ r.2.mem ((c.tc : Thread Cert.Reference.nD Cert.Reference.τ).loc Cert.Reference.main_v6) = v6 c
          ∧ r.2.mem ((c.tc : Thread Cert.Reference.nD Cert.Reference.τ).loc Cert.Reference.main_v7) = v7 c
          ∧ r.2.mem ((c.tc : Thread Cert.Reference.nD Cert.Reference.τ).loc Cert.Reference.main_arg0) = m' ((c.tc : Thread Cert.Reference.nD Cert.Reference.τ).loc Cert.Reference.main_arg0))

def Claim : Prop :=
  ∃ (hKernel : Cert.Kernel.Facts) (hKernelIdeal : Cert.KernelIdeal.Facts) (hReference : Cert.Reference.Facts) (hReferenceIdeal : Cert.ReferenceIdeal.Facts),
    quiescent_Kernel (hKernel := hKernel)
    ∧ quiescent_KernelIdeal (hKernelIdeal := hKernelIdeal)
    ∧ quiescent_Reference (hReference := hReference)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S1024x128x256 : Shape := ⟨3, ![1024, 128, 256]⟩
abbrev S1024x16x256 : Shape := ⟨3, ![1024, 16, 256]⟩
abbrev S64x128x256 : Shape := ⟨3, ![64, 128, 256]⟩
abbrev S64x16x256 : Shape := ⟨3, ![64, 16, 256]⟩

abbrev nBuf : Space → Nat
  | .hbm => 9
  | .vmem => 18
  | .smem => 0
  | _ => 0

abbrev bufTy : (tb : Table) → Fin (tcTables nBuf tb) → BufTy
  | .hbm, ⟨0, _⟩ => ⟨S1024x128x256, .f32⟩
  | .hbm, ⟨1, _⟩ => ⟨S1024x16x256, .f32⟩
  | .hbm, ⟨2, _⟩ => ⟨S1024x16x256, .f32⟩
  | .hbm, ⟨3, _⟩ => ⟨S1024x16x256, .f32⟩
  | .hbm, ⟨4, _⟩ => ⟨S1024x16x256, .f32⟩
  | .hbm, ⟨5, _⟩ => ⟨S1024x16x256, .f32⟩
  | .hbm, ⟨6, _⟩ => ⟨S1024x16x256, .f32⟩
  | .hbm, ⟨7, _⟩ => ⟨S1024x16x256, .f32⟩
  | .hbm, ⟨8, _⟩ => ⟨S1024x16x256, .f32⟩
  | .local _ .vmem, ⟨0, _⟩ => ⟨S64x128x256, .f32⟩
  | .local _ .vmem, ⟨1, _⟩ => ⟨S64x128x256, .f32⟩
  | .local _ .vmem, ⟨2, _⟩ => ⟨S64x16x256, .f32⟩
  | .local _ .vmem, ⟨3, _⟩ => ⟨S64x16x256, .f32⟩
  | .local _ .vmem, ⟨4, _⟩ => ⟨S64x16x256, .f32⟩
  | .local _ .vmem, ⟨5, _⟩ => ⟨S64x16x256, .f32⟩
  | .local _ .vmem, ⟨6, _⟩ => ⟨S64x16x256, .f32⟩
  | .local _ .vmem, ⟨7, _⟩ => ⟨S64x16x256, .f32⟩
  | .local _ .vmem, ⟨8, _⟩ => ⟨S64x16x256, .f32⟩
  | .local _ .vmem, ⟨9, _⟩ => ⟨S64x16x256, .f32⟩
  | .local _ .vmem, ⟨10, _⟩ => ⟨S64x16x256, .f32⟩
  | .local _ .vmem, ⟨11, _⟩ => ⟨S64x16x256, .f32⟩
  | .local _ .vmem, ⟨12, _⟩ => ⟨S64x16x256, .f32⟩
  | .local _ .vmem, ⟨13, _⟩ => ⟨S64x16x256, .f32⟩
  | .local _ .vmem, ⟨14, _⟩ => ⟨S64x16x256, .f32⟩
  | .local _ .vmem, ⟨15, _⟩ => ⟨S64x16x256, .f32⟩
  | .local _ .vmem, ⟨16, _⟩ => ⟨S64x16x256, .f32⟩
  | .local _ .vmem, ⟨17, _⟩ => ⟨S64x16x256, .f32⟩
  | _, _ => ⟨S1024x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v0_3 : Ref sig .tc := ⟨.hbm, 4, rfl⟩
abbrev main_v0_4 : Ref sig .tc := ⟨.hbm, 5, rfl⟩
abbrev main_v0_5 : Ref sig .tc := ⟨.hbm, 6, rfl⟩
abbrev main_v0_6 : Ref sig .tc := ⟨.hbm, 7, rfl⟩
abbrev main_v0_7 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x16x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x16x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x16x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x16x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x16x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x16x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x16x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference.lean ====
abbrev S1024x128x256 : Shape := ⟨3, ![1024, 128, 256]⟩
abbrev S16 : Shape := ⟨1, ![16]⟩
abbrev S_ : Shape := ⟨0, ![]⟩
abbrev S16x1 : Shape := ⟨2, ![16, 1]⟩
abbrev S1 : Shape := ⟨1, ![1]⟩
abbrev S1x1 : Shape := ⟨2, ![1, 1]⟩
abbrev S1024x16x256 : Shape := ⟨3, ![1024, 16, 256]⟩

abbrev nBuf : Space → Nat
  | .hbm => 193
  | .vmem => 0
  | .smem => 0
  | _ => 0

abbrev hbmTy0_0 (i : Nat) : BufTy := match i % 128 with
  | 0 => ⟨S1024x128x256, .f32⟩
  | 1 => ⟨S16, .i32⟩
  | 2 => ⟨S16, .i32⟩
  | 3 => ⟨S16, .i32⟩
  | 4 => ⟨S16, .i32⟩
  | 5 => ⟨S16, .i32⟩
  | 6 => ⟨S16, .i32⟩
  | 7 => ⟨S16, .i32⟩
  | 8 => ⟨S16, .i32⟩
  | 9 => ⟨S_, .i32⟩
  | 10 => ⟨S16, .i32⟩
  | 11 => ⟨S16, .i1⟩
  | 12 => ⟨S_, .i32⟩
  | 13 => ⟨S16, .i32⟩
  | 14 => ⟨S16, .i32⟩
  | 15 => ⟨S16, .i32⟩
  | 16 => ⟨S16x1, .i32⟩
  | 17 => ⟨S1, .i32⟩
  | 18 => ⟨S_, .i32⟩
  | 19 => ⟨S16x1, .i32⟩
  | 20 => ⟨S16x1, .i1⟩
  | 21 => ⟨S1x1, .i32⟩
  | 22 => ⟨S16x1, .i32⟩
  | 23 => ⟨S16x1, .i1⟩
  | 24 => ⟨S16x1, .i1⟩
  | 25 => ⟨S_, .i1⟩
  | 26 => ⟨S16, .i1⟩
  | 27 => ⟨S1024x16x256, .f32⟩
  | 28 => ⟨S1024x16x256, .i1⟩
  | 29 => ⟨S_, .f32⟩
  | 30 => ⟨S1024x16x256, .f32⟩
  | 31 => ⟨S1024x16x256, .f32⟩
  | 32 => ⟨S_, .i32⟩
  | 33 => ⟨S16, .i32⟩
  | 34 => ⟨S16, .i1⟩
  | 35 => ⟨S_, .i32⟩
  | 36 => ⟨S16, .i32⟩
  | 37 => ⟨S16, .i32⟩
  | 38 => ⟨S16, .i32⟩
  | 39 => ⟨S16x1, .i32⟩
  | 40 => ⟨S1, .i32⟩
  | 41 => ⟨S_, .i32⟩
  | 42 => ⟨S16x1, .i32⟩
  | 43 => ⟨S16x1, .i1⟩
  | 44 => ⟨S1x1, .i32⟩
  | 45 => ⟨S16x1, .i32⟩
  | 46 => ⟨S16x1, .i1⟩
  | 47 => ⟨S16x1, .i1⟩
  | 48 => ⟨S_, .i1⟩
  | 49 => ⟨S16, .i1⟩
  | 50 => ⟨S1024x16x256, .f32⟩
  | 51 => ⟨S1024x16x256, .i1⟩
  | 52 => ⟨S_, .f32⟩
  | 53 => ⟨S1024x16x256, .f32⟩
  | 54 => ⟨S1024x16x256, .f32⟩
  | 55 => ⟨S_, .i32⟩
  | 56 => ⟨S16, .i32⟩
  | 57 => ⟨S16, .i1⟩
  | 58 => ⟨S_, .i32⟩
  | 59 => ⟨S16, .i32⟩
  | 60 => ⟨S16, .i32⟩
  | 61 => ⟨S16, .i32⟩
  | 62 => ⟨S16x1, .i32⟩
  | 63 => ⟨S1, .i32⟩
  | 64 => ⟨S_, .i32⟩
  | 65 => ⟨S16x1, .i32⟩
  | 66 => ⟨S16x1, .i1⟩
  | 67 => ⟨S1x1, .i32⟩
  | 68 => ⟨S16x1, .i32⟩
  | 69 => ⟨S16x1, .i1⟩
  | 70 => ⟨S16x1, .i1⟩
  | 71 => ⟨S_, .i1⟩
  | 72 => ⟨S16, .i1⟩
  | 73 => ⟨S1024x16x256, .f32⟩
  | 74 => ⟨S1024x16x256, .i1⟩
  | 75 => ⟨S_, .f32⟩
  | 76 => ⟨S1024x16x256, .f32⟩
  | 77 => ⟨S1024x16x256, .f32⟩
  | 78 => ⟨S_, .i32⟩
  | 79 => ⟨S16, .i32⟩
  | 80 => ⟨S16, .i1⟩
  | 81 => ⟨S_, .i32⟩
  | 82 => ⟨S16, .i32⟩
  | 83 => ⟨S16, .i32⟩
  | 84 => ⟨S16, .i32⟩
  | 85 => ⟨S16x1, .i32⟩
  | 86 => ⟨S1, .i32⟩
  | 87 => ⟨S_, .i32⟩
  | 88 => ⟨S16x1, .i32⟩
  | 89 => ⟨S16x1, .i1⟩
  | 90 => ⟨S1x1, .i32⟩
  | 91 => ⟨S16x1, .i32⟩
  | 92 => ⟨S16x1, .i1⟩
  | 93 => ⟨S16x1, .i1⟩
  | 94 => ⟨S_, .i1⟩
  | 95 => ⟨S16, .i1⟩
  | 96 => ⟨S1024x16x256, .f32⟩
  | 97 => ⟨S1024x16x256, .i1⟩
  | 98 => ⟨S_, .f32⟩
  | 99 => ⟨S1024x16x256, .f32⟩
  | 100 => ⟨S1024x16x256, .f32⟩
  | 101 => ⟨S_, .i32⟩
  | 102 => ⟨S16, .i32⟩
  | 103 => ⟨S16, .i1⟩
  | 104 => ⟨S_, .i32⟩
  | 105 => ⟨S16, .i32⟩
  | 106 => ⟨S16, .i32⟩
  | 107 => ⟨S16, .i32⟩
  | 108 => ⟨S16x1, .i32⟩
  | 109 => ⟨S1, .i32⟩
  | 110 => ⟨S_, .i32⟩
  | 111 => ⟨S16x1, .i32⟩
  | 112 => ⟨S16x1, .i1⟩
  | 113 => ⟨S1x1, .i32⟩
  | 114 => ⟨S16x1, .i32⟩
  | 115 => ⟨S16x1, .i1⟩
  | 116 => ⟨S16x1, .i1⟩
  | 117 => ⟨S_, .i1⟩
  | 118 => ⟨S16, .i1⟩
  | 119 => ⟨S1024x16x256, .f32⟩
  | 120 => ⟨S1024x16x256, .i1⟩
  | 121 => ⟨S_, .f32⟩
  | 122 => ⟨S1024x16x256, .f32⟩
  | 123 => ⟨S1024x16x256, .f32⟩
  | 124 => ⟨S_, .i32⟩
  | 125 => ⟨S16, .i32⟩
  | 126 => ⟨S16, .i1⟩
  | 127 => ⟨S_, .i32⟩
  | _ => ⟨S1024x128x256, .f32⟩

abbrev hbmTy0_1 (i : Nat) : BufTy := match i % 128 with
  | 0 => ⟨S16, .i32⟩
  | 1 => ⟨S16, .i32⟩
  | 2 => ⟨S16, .i32⟩
  | 3 => ⟨S16x1, .i32⟩
  | 4 => ⟨S1, .i32⟩
  | 5 => ⟨S_, .i32⟩
  | 6 => ⟨S16x1, .i32⟩
  | 7 => ⟨S16x1, .i1⟩
  | 8 => ⟨S1x1, .i32⟩
  | 9 => ⟨S16x1, .i32⟩
  | 10 => ⟨S16x1, .i1⟩
  | 11 => ⟨S16x1, .i1⟩
  | 12 => ⟨S_, .i1⟩
  | 13 => ⟨S16, .i1⟩
  | 14 => ⟨S1024x16x256, .f32⟩
  | 15 => ⟨S1024x16x256, .i1⟩
  | 16 => ⟨S_, .f32⟩
  | 17 => ⟨S1024x16x256, .f32⟩
  | 18 => ⟨S1024x16x256, .f32⟩
  | 19 => ⟨S_, .i32⟩
  | 20 => ⟨S16, .i32⟩
  | 21 => ⟨S16, .i1⟩
  | 22 => ⟨S_, .i32⟩
  | 23 => ⟨S16, .i32⟩
  | 24 => ⟨S16, .i32⟩
  | 25 => ⟨S16, .i32⟩
  | 26 => ⟨S16x1, .i32⟩
  | 27 => ⟨S1, .i32⟩
  | 28 => ⟨S_, .i32⟩
  | 29 => ⟨S16x1, .i32⟩
  | 30 => ⟨S16x1, .i1⟩
  | 31 => ⟨S1x1, .i32⟩
  | 32 => ⟨S16x1, .i32⟩
  | 33 => ⟨S16x1, .i1⟩
  | 34 => ⟨S16x1, .i1⟩
  | 35 => ⟨S_, .i1⟩
  | 36 => ⟨S16, .i1⟩
  | 37 => ⟨S1024x16x256, .f32⟩
  | 38 => ⟨S1024x16x256, .i1⟩
  | 39 => ⟨S_, .f32⟩
  | 40 => ⟨S1024x16x256, .f32⟩
  | 41 => ⟨S1024x16x256, .f32⟩
  | 42 => ⟨S_, .i32⟩
  | 43 => ⟨S16, .i32⟩
  | 44 => ⟨S16, .i1⟩
  | 45 => ⟨S_, .i32⟩
  | 46 => ⟨S16, .i32⟩
  | 47 => ⟨S16, .i32⟩
  | 48 => ⟨S16, .i32⟩
  | 49 => ⟨S16x1, .i32⟩
  | 50 => ⟨S1, .i32⟩
  | 51 => ⟨S_, .i32⟩
  | 52 => ⟨S16x1, .i32⟩
  | 53 => ⟨S16x1, .i1⟩
  | 54 => ⟨S1x1, .i32⟩
  | 55 => ⟨S16x1, .i32⟩
  | 56 => ⟨S16x1, .i1⟩
  | 57 => ⟨S16x1, .i1⟩
  | 58 => ⟨S_, .i1⟩
  | 59 => ⟨S16, .i1⟩
  | 60 => ⟨S1024x16x256, .f32⟩
  | 61 => ⟨S1024x16x256, .i1⟩
  | 62 => ⟨S_, .f32⟩
  | 63 => ⟨S1024x16x256, .f32⟩
  | 64 => ⟨S1024x16x256, .f32⟩
  | _ => ⟨S1024x128x256, .f32⟩

abbrev hbmTy (i : Nat) : BufTy := match i / 128 with
  | 0 => hbmTy0_0 i
  | 1 => hbmTy0_1 i
  | _ => ⟨S1024x128x256, .f32⟩

abbrev bufTy : (tb : Table) → Fin (tcTables nBuf tb) → BufTy
  | .hbm, ⟨i, _⟩ => hbmTy i
  | _, _ => ⟨S1024x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_c_1 : Ref sig .tc := ⟨.hbm, 3, rfl⟩
abbrev main_c_2 : Ref sig .tc := ⟨.hbm, 4, rfl⟩
abbrev main_c_3 : Ref sig .tc := ⟨.hbm, 5, rfl⟩
abbrev main_c_4 : Ref sig .tc := ⟨.hbm, 6, rfl⟩
abbrev main_c_5 : Ref sig .tc := ⟨.hbm, 7, rfl⟩
abbrev main_c_6 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v0 : Ref sig .tc := ⟨.hbm, 31, rfl⟩
abbrev main_call1_c : Ref sig .tc := ⟨.hbm, 32, rfl⟩
abbrev main_call1_v0 : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_c_1 : Ref sig .tc := ⟨.hbm, 40, rfl⟩
abbrev main_call1_c_2 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_3 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_call1_cst : Ref sig .tc := ⟨.hbm, 52, rfl⟩
abbrev main_call1_v15 : Ref sig .tc := ⟨.hbm, 53, rfl⟩
abbrev main_v1 : Ref sig .tc := ⟨.hbm, 54, rfl⟩
abbrev main_call2_c : Ref sig .tc := ⟨.hbm, 55, rfl⟩
abbrev main_call2_v0 : Ref sig .tc := ⟨.hbm, 56, rfl⟩
abbrev main_call2_v1 : Ref sig .tc := ⟨.hbm, 57, rfl⟩
abbrev main_call2_c_0 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_call2_v5 : Ref sig .tc := ⟨.hbm, 62, rfl⟩
abbrev main_call2_c_1 : Ref sig .tc := ⟨.hbm, 63, rfl⟩
abbrev main_call2_c_2 : Ref sig .tc := ⟨.hbm, 64, rfl⟩
abbrev main_call2_v6 : Ref sig .tc := ⟨.hbm, 65, rfl⟩
abbrev main_call2_v7 : Ref sig .tc := ⟨.hbm, 66, rfl⟩
abbrev main_call2_v8 : Ref sig .tc := ⟨.hbm, 67, rfl⟩
abbrev main_call2_v9 : Ref sig .tc := ⟨.hbm, 68, rfl⟩
abbrev main_call2_v10 : Ref sig .tc := ⟨.hbm, 69, rfl⟩
abbrev main_call2_v11 : Ref sig .tc := ⟨.hbm, 70, rfl⟩
abbrev main_call2_c_3 : Ref sig .tc := ⟨.hbm, 71, rfl⟩
abbrev main_call2_v12 : Ref sig .tc := ⟨.hbm, 72, rfl⟩
abbrev main_call2_v13 : Ref sig .tc := ⟨.hbm, 73, rfl⟩
abbrev main_call2_v14 : Ref sig .tc := ⟨.hbm, 74, rfl⟩
abbrev main_call2_cst : Ref sig .tc := ⟨.hbm, 75, rfl⟩
abbrev main_call2_v15 : Ref sig .tc := ⟨.hbm, 76, rfl⟩
abbrev main_v2 : Ref sig .tc := ⟨.hbm, 77, rfl⟩
abbrev main_call3_c : Ref sig .tc := ⟨.hbm, 78, rfl⟩
abbrev main_call3_v0 : Ref sig .tc := ⟨.hbm, 79, rfl⟩
abbrev main_call3_v1 : Ref sig .tc := ⟨.hbm, 80, rfl⟩
abbrev main_call3_c_0 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_call3_v5 : Ref sig .tc := ⟨.hbm, 85, rfl⟩
abbrev main_call3_c_1 : Ref sig .tc := ⟨.hbm, 86, rfl⟩
abbrev main_call3_c_2 : Ref sig .tc := ⟨.hbm, 87, rfl⟩
abbrev main_call3_v6 : Ref sig .tc := ⟨.hbm, 88, rfl⟩
abbrev main_call3_v7 : Ref sig .tc := ⟨.hbm, 89, rfl⟩
abbrev main_call3_v8 : Ref sig .tc := ⟨.hbm, 90, rfl⟩
abbrev main_call3_v9 : Ref sig .tc := ⟨.hbm, 91, rfl⟩
abbrev main_call3_v10 : Ref sig .tc := ⟨.hbm, 92, rfl⟩
abbrev main_call3_v11 : Ref sig .tc := ⟨.hbm, 93, rfl⟩
abbrev main_call3_c_3 : Ref sig .tc := ⟨.hbm, 94, rfl⟩
abbrev main_call3_v12 : Ref sig .tc := ⟨.hbm, 95, rfl⟩
abbrev main_call3_v13 : Ref sig .tc := ⟨.hbm, 96, rfl⟩
abbrev main_call3_v14 : Ref sig .tc := ⟨.hbm, 97, rfl⟩
abbrev main_call3_cst : Ref sig .tc := ⟨.hbm, 98, rfl⟩
abbrev main_call3_v15 : Ref sig .tc := ⟨.hbm, 99, rfl⟩
abbrev main_v3 : Ref sig .tc := ⟨.hbm, 100, rfl⟩
abbrev main_call4_c : Ref sig .tc := ⟨.hbm, 101, rfl⟩
abbrev main_call4_v0 : Ref sig .tc := ⟨.hbm, 102, rfl⟩
abbrev main_call4_v1 : Ref sig .tc := ⟨.hbm, 103, rfl⟩
abbrev main_call4_c_0 : Ref sig .tc := ⟨.hbm, 104, rfl⟩
abbrev main_call4_v2 : Ref sig .tc := ⟨.hbm, 105, rfl⟩
abbrev main_call4_v3 : Ref sig .tc := ⟨.hbm, 106, rfl⟩
abbrev main_call4_v4 : Ref sig .tc := ⟨.hbm, 107, rfl⟩
abbrev main_call4_v5 : Ref sig .tc := ⟨.hbm, 108, rfl⟩
abbrev main_call4_c_1 : Ref sig .tc := ⟨.hbm, 109, rfl⟩
abbrev main_call4_c_2 : Ref sig .tc := ⟨.hbm, 110, rfl⟩
abbrev main_call4_v6 : Ref sig .tc := ⟨.hbm, 111, rfl⟩
abbrev main_call4_v7 : Ref sig .tc := ⟨.hbm, 112, rfl⟩
abbrev main_call4_v8 : Ref sig .tc := ⟨.hbm, 113, rfl⟩
abbrev main_call4_v9 : Ref sig .tc := ⟨.hbm, 114, rfl⟩
abbrev main_call4_v10 : Ref sig .tc := ⟨.hbm, 115, rfl⟩
abbrev main_call4_v11 : Ref sig .tc := ⟨.hbm, 116, rfl⟩
abbrev main_call4_c_3 : Ref sig .tc := ⟨.hbm, 117, rfl⟩
abbrev main_call4_v12 : Ref sig .tc := ⟨.hbm, 118, rfl⟩
abbrev main_call4_v13 : Ref sig .tc := ⟨.hbm, 119, rfl⟩
abbrev main_call4_v14 : Ref sig .tc := ⟨.hbm, 120, rfl⟩
abbrev main_call4_cst : Ref sig .tc := ⟨.hbm, 121, rfl⟩
abbrev main_call4_v15 : Ref sig .tc := ⟨.hbm, 122, rfl⟩
abbrev main_v4 : Ref sig .tc := ⟨.hbm, 123, rfl⟩
abbrev main_call5_c : Ref sig .tc := ⟨.hbm, 124, rfl⟩
abbrev main_call5_v0 : Ref sig .tc := ⟨.hbm, 125, rfl⟩
abbrev main_call5_v1 : Ref sig .tc := ⟨.hbm, 126, rfl⟩
abbrev main_call5_c_0 : Ref sig .tc := ⟨.hbm, 127, rfl⟩
abbrev main_call5_v2 : Ref sig .tc := ⟨.hbm, 128, rfl⟩
abbrev main_call5_v3 : Ref sig .tc := ⟨.hbm, 129, rfl⟩
abbrev main_call5_v4 : Ref sig .tc := ⟨.hbm, 130, rfl⟩
abbrev main_call5_v5 : Ref sig .tc := ⟨.hbm, 131, rfl⟩
abbrev main_call5_c_1 : Ref sig .tc := ⟨.hbm, 132, rfl⟩
abbrev main_call5_c_2 : Ref sig .tc := ⟨.hbm, 133, rfl⟩
abbrev main_call5_v6 : Ref sig .tc := ⟨.hbm, 134, rfl⟩
abbrev main_call5_v7 : Ref sig .tc := ⟨.hbm, 135, rfl⟩
abbrev main_call5_v8 : Ref sig .tc := ⟨.hbm, 136, rfl⟩
abbrev main_call5_v9 : Ref sig .tc := ⟨.hbm, 137, rfl⟩
abbrev main_call5_v10 : Ref sig .tc := ⟨.hbm, 138, rfl⟩
abbrev main_call5_v11 : Ref sig .tc := ⟨.hbm, 139, rfl⟩
abbrev main_call5_c_3 : Ref sig .tc := ⟨.hbm, 140, rfl⟩
abbrev main_call5_v12 : Ref sig .tc := ⟨.hbm, 141, rfl⟩
abbrev main_call5_v13 : Ref sig .tc := ⟨.hbm, 142, rfl⟩
abbrev main_call5_v14 : Ref sig .tc := ⟨.hbm, 143, rfl⟩
abbrev main_call5_cst : Ref sig .tc := ⟨.hbm, 144, rfl⟩
abbrev main_call5_v15 : Ref sig .tc := ⟨.hbm, 145, rfl⟩
abbrev main_v5 : Ref sig .tc := ⟨.hbm, 146, rfl⟩
abbrev main_call6_c : Ref sig .tc := ⟨.hbm, 147, rfl⟩
abbrev main_call6_v0 : Ref sig .tc := ⟨.hbm, 148, rfl⟩
abbrev main_call6_v1 : Ref sig .tc := ⟨.hbm, 149, rfl⟩
abbrev main_call6_c_0 : Ref sig .tc := ⟨.hbm, 150, rfl⟩
abbrev main_call6_v2 : Ref sig .tc := ⟨.hbm, 151, rfl⟩
abbrev main_call6_v3 : Ref sig .tc := ⟨.hbm, 152, rfl⟩
abbrev main_call6_v4 : Ref sig .tc := ⟨.hbm, 153, rfl⟩
abbrev main_call6_v5 : Ref sig .tc := ⟨.hbm, 154, rfl⟩
abbrev main_call6_c_1 : Ref sig .tc := ⟨.hbm, 155, rfl⟩
abbrev main_call6_c_2 : Ref sig .tc := ⟨.hbm, 156, rfl⟩
abbrev main_call6_v6 : Ref sig .tc := ⟨.hbm, 157, rfl⟩
abbrev main_call6_v7 : Ref sig .tc := ⟨.hbm, 158, rfl⟩
abbrev main_call6_v8 : Ref sig .tc := ⟨.hbm, 159, rfl⟩
abbrev main_call6_v9 : Ref sig .tc := ⟨.hbm, 160, rfl⟩
abbrev main_call6_v10 : Ref sig .tc := ⟨.hbm, 161, rfl⟩
abbrev main_call6_v11 : Ref sig .tc := ⟨.hbm, 162, rfl⟩
abbrev main_call6_c_3 : Ref sig .tc := ⟨.hbm, 163, rfl⟩
abbrev main_call6_v12 : Ref sig .tc := ⟨.hbm, 164, rfl⟩
abbrev main_call6_v13 : Ref sig .tc := ⟨.hbm, 165, rfl⟩
abbrev main_call6_v14 : Ref sig .tc := ⟨.hbm, 166, rfl⟩
abbrev main_call6_cst : Ref sig .tc := ⟨.hbm, 167, rfl⟩
abbrev main_call6_v15 : Ref sig .tc := ⟨.hbm, 168, rfl⟩
abbrev main_v6 : Ref sig .tc := ⟨.hbm, 169, rfl⟩
abbrev main_call7_c : Ref sig .tc := ⟨.hbm, 170, rfl⟩
abbrev main_call7_v0 : Ref sig .tc := ⟨.hbm, 171, rfl⟩
abbrev main_call7_v1 : Ref sig .tc := ⟨.hbm, 172, rfl⟩
abbrev main_call7_c_0 : Ref sig .tc := ⟨.hbm, 173, rfl⟩
abbrev main_call7_v2 : Ref sig .tc := ⟨.hbm, 174, rfl⟩
abbrev main_call7_v3 : Ref sig .tc := ⟨.hbm, 175, rfl⟩
abbrev main_call7_v4 : Ref sig .tc := ⟨.hbm, 176, rfl⟩
abbrev main_call7_v5 : Ref sig .tc := ⟨.hbm, 177, rfl⟩
abbrev main_call7_c_1 : Ref sig .tc := ⟨.hbm, 178, rfl⟩
abbrev main_call7_c_2 : Ref sig .tc := ⟨.hbm, 179, rfl⟩
abbrev main_call7_v6 : Ref sig .tc := ⟨.hbm, 180, rfl⟩
abbrev main_call7_v7 : Ref sig .tc := ⟨.hbm, 181, rfl⟩
abbrev main_call7_v8 : Ref sig .tc := ⟨.hbm, 182, rfl⟩
abbrev main_call7_v9 : Ref sig .tc := ⟨.hbm, 183, rfl⟩
abbrev main_call7_v10 : Ref sig .tc := ⟨.hbm, 184, rfl⟩
abbrev main_call7_v11 : Ref sig .tc := ⟨.hbm, 185, rfl⟩
abbrev main_call7_c_3 : Ref sig .tc := ⟨.hbm, 186, rfl⟩
abbrev main_call7_v12 : Ref sig .tc := ⟨.hbm, 187, rfl⟩
abbrev main_call7_v13 : Ref sig .tc := ⟨.hbm, 188, rfl⟩
abbrev main_call7_v14 : Ref sig .tc := ⟨.hbm, 189, rfl⟩
abbrev main_call7_cst : Ref sig .tc := ⟨.hbm, 190, rfl⟩
abbrev main_call7_v15 : Ref sig .tc := ⟨.hbm, 191, rfl⟩
abbrev main_v7 : Ref sig .tc := ⟨.hbm, 192, rfl⟩

abbrev nD : Nat := 1
abbrev τ : Topo := Topo.v7x

variable {F : FTy → Type} [FloatOps F]
-- ==== Proof.Region.lean ====
/- The function that both programs compute: region `k` of an array f32[1024, 128, 256] is the sixteen channels
   `16 k … 16 k + 15` of its second axis. Stated for any element type, free of either program. -/
module

public import Idealize.ShloMosaic.PureOps
public import Idealize.ShloMosaic.Lib.ValueIdxCore

@[expose] public section

noncomputable section

namespace Cert.Region

open Idealize.ShloMosaic Idealize.ShloMosaic.ValueIdx

/-- The shape of the argument: batch, channel, feature. -/
abbrev Whole : Shape := ⟨3, ![1024, 128, 256]⟩
/-- The shape of one result: batch, channel of the region, feature. -/
abbrev Part : Shape := ⟨3, ![1024, 16, 256]⟩

/-- Channel `q` of region `k` among all 128 channels. -/
def channel (k : Fin 8) (q : Fin 16) : Fin 128 := ⟨16 * k.val + q.val, by omega⟩

/-- Region `k` of the array `x`: entry `(b, q, f)` is entry `(b, 16 k + q, f)` of `x`. -/
def region {α : Type} (k : Fin 8) (x : Whole.Idx → α) : Part.Idx → α :=
  fun j => x (ix3 (j 0) (channel k (j 1)) (j 2))

/-- An entry of the array whose coordinates are the ones that region `k` reads at `j` is the region's entry `j`. -/
theorem eq_region {α : Type} (k : Fin 8) (x : Whole.Idx → α) (j : Part.Idx) (i : Whole.Idx) (h0 : (i 0 : Nat) = j 0)
    (h1 : (i 1 : Nat) = 16 * k.val + j 1) (h2 : (i 2 : Nat) = j 2) : x i = region k x j := by
  unfold region
  refine congrArg x (funext fun a => Fin.ext ?_)
  match a with
  | ⟨0, _⟩ => exact h0
  | ⟨1, _⟩ => exact h1
  | ⟨2, _⟩ => exact h2

end Cert.Region

end
-- ==== Proof.KernelRegions.lean ====
/- The kernel's eight result arrays. At grid point `t` the body copies channels `16 k … 16 k + 15` of the staged block,
   which is rows `64 t … 64 t + 63` of the argument, into the staging buffer of result `k`; the pipeline writes that
   buffer back to rows `64 t … 64 t + 63` of result `k`. So each result array ends holding its region of the argument. -/
module

public import proofs.«01_k».proof.Proof.Region
public import proofs.«01_k».proof.Proof.Gen.Kernel.Value
public import Idealize.ShloMosaic.Lib.Pipeline.ValueKit

@[expose] public section

noncomputable section

namespace Cert.Kernel.Regions

open Cert.Kernel Cert.Kernel.Gen Cert.Region Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- A store at the offsets `[0, 0, 0]` starts at the origin. -/
theorem origin : (![0, 0, 0] : Fin 3 → Nat) = fun _ => 0 := funext fun a => by fin_cases a <;> rfl

/-- The argument's window is at block `[t, 0, 0]` at point `t`. -/
theorem in_index : ∀ t : Fin cfg0.N, win0_0.index t = ![t.val, 0, 0] := (by decide +kernel : ∀ t : Fin grid0.N, _)

/-- One entry of what the body copies at point `t`: the argument `X`, read through the block at `t` and then through the
    sixteen channels that start at `16 k`, is region `k` of `X` at the row and the channel that the entry is written back to. -/
theorem copied_eq {α : Type} (X : Whole.Idx → α) (k : Fin 8) (t : Fin cfg0.N) (off : Fin 3 → Nat) (hoff : off = ![0, 16 * k.val, 0])
    (inb) (y : S64x16x256.Idx) (i : Part.Idx) (h0 : (i 0 : Nat) = t.val * 64 + y 0) (h1 : (i 1 : Nat) = y 1) (h2 : (i 2 : Nat) = y 2) :
    X ((win0_0.blk t).view.emb ((Rect.unit (s := S64x128x256) off S64x16x256.size inb).idx y)) = region k X i := by
  subst hoff
  refine eq_region k X i _ ?_ ?_ ?_
  · blk_simp [in_index]
    have e := Rect.idx_unit_val (s := S64x128x256) _ S64x16x256.size inb y 0
    rw [e, h0]; simp
  · blk_simp [in_index]
    have e := Rect.idx_unit_val (s := S64x128x256) _ S64x16x256.size inb y 1
    rw [e, h1]; simp
  · blk_simp [in_index]
    have e := Rect.idx_unit_val (s := S64x128x256) _ S64x16x256.size inb y 2
    rw [e, h2]; simp

/-- Result 0 is at block `[t, 0, 0]` at point `t`, -/
theorem out_index0 : ∀ t : Fin cfg0.N, win0_1.index t = ![t.val, 0, 0] := (by decide +kernel : ∀ t : Fin grid0.N, _)

/-- and its array ends holding region 0 of the argument. -/
theorem final0 (c : Dev nD) : (dats m 0 c).arrAt 1 cfg0.N = region 0 (m ((c : Thread nD τ).loc main_arg0)) := by
  refine (dats m 0 c).arrAt_eq_of_covers 1 _ (by decide +kernel) fun t hf y => ?_
  blk_simp
  rw [after0_1, out0_1, View.canon_unit_zero origin]
  exact copied_eq (V m c main_arg0) 0 t _ rfl _ y _ (by blk_simp [out_index0]) (by blk_simp [out_index0]) (by blk_simp [out_index0])

/-- Result 1 is at block `[t, 0, 0]` at point `t`, -/
theorem out_index1 : ∀ t : Fin cfg0.N, win0_2.index t = ![t.val, 0, 0] := (by decide +kernel : ∀ t : Fin grid0.N, _)

/-- and its array ends holding region 1 of the argument. -/
theorem final1 (c : Dev nD) : (dats m 0 c).arrAt 2 cfg0.N = region 1 (m ((c : Thread nD τ).loc main_arg0)) := by
  refine (dats m 0 c).arrAt_eq_of_covers 2 _ (by decide +kernel) fun t hf y => ?_
  blk_simp
  rw [after0_2, out0_2, View.canon_unit_zero origin]
  exact copied_eq (V m c main_arg0) 1 t _ rfl _ y _ (by blk_simp [out_index1]) (by blk_simp [out_index1]) (by blk_simp [out_index1])

/-- Result 2 is at block `[t, 0, 0]` at point `t`, -/
theorem out_index2 : ∀ t : Fin cfg0.N, win0_3.index t = ![t.val, 0, 0] := (by decide +kernel : ∀ t : Fin grid0.N, _)

/-- and its array ends holding region 2 of the argument. -/
theorem final2 (c : Dev nD) : (dats m 0 c).arrAt 3 cfg0.N = region 2 (m ((c : Thread nD τ).loc main_arg0)) := by
  refine (dats m 0 c).arrAt_eq_of_covers 3 _ (by decide +kernel) fun t hf y => ?_
  blk_simp
  rw [after0_3, out0_3, View.canon_unit_zero origin]
  exact copied_eq (V m c main_arg0) 2 t _ rfl _ y _ (by blk_simp [out_index2]) (by blk_simp [out_index2]) (by blk_simp [out_index2])

/-- Result 3 is at block `[t, 0, 0]` at point `t`, -/
theorem out_index3 : ∀ t : Fin cfg0.N, win0_4.index t = ![t.val, 0, 0] := (by decide +kernel : ∀ t : Fin grid0.N, _)

/-- and its array ends holding region 3 of the argument. -/
theorem final3 (c : Dev nD) : (dats m 0 c).arrAt 4 cfg0.N = region 3 (m ((c : Thread nD τ).loc main_arg0)) := by
  refine (dats m 0 c).arrAt_eq_of_covers 4 _ (by decide +kernel) fun t hf y => ?_
  blk_simp
  rw [after0_4, out0_4, View.canon_unit_zero origin]
  exact copied_eq (V m c main_arg0) 3 t _ rfl _ y _ (by blk_simp [out_index3]) (by blk_simp [out_index3]) (by blk_simp [out_index3])

/-- Result 4 is at block `[t, 0, 0]` at point `t`, -/
theorem out_index4 : ∀ t : Fin cfg0.N, win0_5.index t = ![t.val, 0, 0] := (by decide +kernel : ∀ t : Fin grid0.N, _)

/-- and its array ends holding region 4 of the argument. -/
theorem final4 (c : Dev nD) : (dats m 0 c).arrAt 5 cfg0.N = region 4 (m ((c : Thread nD τ).loc main_arg0)) := by
  refine (dats m 0 c).arrAt_eq_of_covers 5 _ (by decide +kernel) fun t hf y => ?_
  blk_simp
  rw [after0_5, out0_5, View.canon_unit_zero origin]
  exact copied_eq (V m c main_arg0) 4 t _ rfl _ y _ (by blk_simp [out_index4]) (by blk_simp [out_index4]) (by blk_simp [out_index4])

/-- Result 5 is at block `[t, 0, 0]` at point `t`, -/
theorem out_index5 : ∀ t : Fin cfg0.N, win0_6.index t = ![t.val, 0, 0] := (by decide +kernel : ∀ t : Fin grid0.N, _)

/-- and its array ends holding region 5 of the argument. -/
theorem final5 (c : Dev nD) : (dats m 0 c).arrAt 6 cfg0.N = region 5 (m ((c : Thread nD τ).loc main_arg0)) := by
  refine (dats m 0 c).arrAt_eq_of_covers 6 _ (by decide +kernel) fun t hf y => ?_
  blk_simp
  rw [after0_6, out0_6, View.canon_unit_zero origin]
  exact copied_eq (V m c main_arg0) 5 t _ rfl _ y _ (by blk_simp [out_index5]) (by blk_simp [out_index5]) (by blk_simp [out_index5])

/-- Result 6 is at block `[t, 0, 0]` at point `t`, -/
theorem out_index6 : ∀ t : Fin cfg0.N, win0_7.index t = ![t.val, 0, 0] := (by decide +kernel : ∀ t : Fin grid0.N, _)

/-- and its array ends holding region 6 of the argument. -/
theorem final6 (c : Dev nD) : (dats m 0 c).arrAt 7 cfg0.N = region 6 (m ((c : Thread nD τ).loc main_arg0)) := by
  refine (dats m 0 c).arrAt_eq_of_covers 7 _ (by decide +kernel) fun t hf y => ?_
  blk_simp
  rw [after0_7, out0_7, View.canon_unit_zero origin]
  exact copied_eq (V m c main_arg0) 6 t _ rfl _ y _ (by blk_simp [out_index6]) (by blk_simp [out_index6]) (by blk_simp [out_index6])

/-- Result 7 is at block `[t, 0, 0]` at point `t`, -/
theorem out_index7 : ∀ t : Fin cfg0.N, win0_8.index t = ![t.val, 0, 0] := (by decide +kernel : ∀ t : Fin grid0.N, _)

/-- and its array ends holding region 7 of the argument. -/
theorem final7 (c : Dev nD) : (dats m 0 c).arrAt 8 cfg0.N = region 7 (m ((c : Thread nD τ).loc main_arg0)) := by
  refine (dats m 0 c).arrAt_eq_of_covers 8 _ (by decide +kernel) fun t hf y => ?_
  blk_simp
  rw [after0_8, out0_8, View.canon_unit_zero origin]
  exact copied_eq (V m c main_arg0) 7 t _ rfl _ y _ (by blk_simp [out_index7]) (by blk_simp [out_index7]) (by blk_simp [out_index7])

/-- The kernel's run: every result array ends at its region of the argument, and the argument is unchanged. -/
theorem run : θ_run defs (onTc (τ := τ) (main (F := F))) ⟨m, fun _ => 0, ρ⟩ fun r => ∀ c : Dev nD,
      r.2.mem ((c : Thread nD τ).loc main_v0_0) = region 0 (m ((c : Thread nD τ).loc main_arg0))
      ∧ r.2.mem ((c : Thread nD τ).loc main_v0_1) = region 1 (m ((c : Thread nD τ).loc main_arg0))
      ∧ r.2.mem ((c : Thread nD τ).loc main_v0_2) = region 2 (m ((c : Thread nD τ).loc main_arg0))
      ∧ r.2.mem ((c : Thread nD τ).loc main_v0_3) = region 3 (m ((c : Thread nD τ).loc main_arg0))
      ∧ r.2.mem ((c : Thread nD τ).loc main_v0_4) = region 4 (m ((c : Thread nD τ).loc main_arg0))
      ∧ r.2.mem ((c : Thread nD τ).loc main_v0_5) = region 5 (m ((c : Thread nD τ).loc main_arg0))
      ∧ r.2.mem ((c : Thread nD τ).loc main_v0_6) = region 6 (m ((c : Thread nD τ).loc main_arg0))
      ∧ r.2.mem ((c : Thread nD τ).loc main_v0_7) = region 7 (m ((c : Thread nD τ).loc main_arg0))
      ∧ r.2.mem ((c : Thread nD τ).loc main_arg0) = m ((c : Thread nD τ).loc main_arg0) :=
  (θ_run defs _ _).mono (fun _ h c => by
      obtain ⟨h0, h1, h2, h3, h4, h5, h6, h7, ha⟩ := h c
      exact ⟨h0.trans (final0 m c), h1.trans (final1 m c), h2.trans (final2 m c), h3.trans (final3 m c), h4.trans (final4 m c),
        h5.trans (final5 m c), h6.trans (final6 m c), h7.trans (final7 m c), ha⟩)
    (Value.run_blocks m ρ)

end Cert.Kernel.Regions

end
-- ==== Proof.KernelIdealRegions.lean ====
/- The reals kernel's eight result arrays. The idealization rewrote no operation of the kernel: the two programs are
   the same program, so what the kernel computes the reals kernel does. -/
module

public import proofs.«01_k».proof.Proof.KernelRegions
public import proofs.«01_k».proof.Proof.Gen.KernelIdeal
public import proofs.«01_k».proof.Proof.Gen.KernelIdeal.Frame

@[expose] public section

noncomputable section

namespace Cert.KernelIdeal.Regions

open Cert.KernelIdeal Cert.Region Idealize.ShloMosaic Idealize.ShloMosaic.TcCoe Idealize.SL.Sem

variable {F : FTy → Type} [FloatOps F]

/-- The two programs' kernel bodies are the same. -/
theorem body_eq : @Cert.Kernel.cc0__split_body F _ = @Cert.KernelIdeal.cc0__split_body F _ := rfl

/-- So are their body tables: the one label calls the body on the same staging buffers. -/
theorem bodies_eq : Cert.Kernel.defs₀ (F := F) = Cert.KernelIdeal.defs₀ (F := F) := by
  unfold Cert.Kernel.defs₀ Cert.KernelIdeal.defs₀
  refine congrArg _ ?_
  funext l x
  match l, x with
  | 0, (t, s) =>
    dsimp only
    rw [body_eq]
    congr 1

/-- So are the tables with the launch's own labels added. -/
theorem defs_eq : Cert.Kernel.defs (F := F) = Cert.KernelIdeal.defs (F := F) := by
  unfold Cert.Kernel.defs Cert.KernelIdeal.defs
  rw [bodies_eq]; rfl

/-- Every run of the reals kernel from a memory with all semaphores at zero ends with each result `k` holding region `k` of
    the argument, and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c : Thread nD τ).loc main_v0_0) = region 0 (m ((c : Thread nD τ).loc main_arg0))
      ∧ r.2.mem ((c : Thread nD τ).loc main_v0_1) = region 1 (m ((c : Thread nD τ).loc main_arg0))
      ∧ r.2.mem ((c : Thread nD τ).loc main_v0_2) = region 2 (m ((c : Thread nD τ).loc main_arg0))
      ∧ r.2.mem ((c : Thread nD τ).loc main_v0_3) = region 3 (m ((c : Thread nD τ).loc main_arg0))
      ∧ r.2.mem ((c : Thread nD τ).loc main_v0_4) = region 4 (m ((c : Thread nD τ).loc main_arg0))
      ∧ r.2.mem ((c : Thread nD τ).loc main_v0_5) = region 5 (m ((c : Thread nD τ).loc main_arg0))
      ∧ r.2.mem ((c : Thread nD τ).loc main_v0_6) = region 6 (m ((c : Thread nD τ).loc main_arg0))
      ∧ r.2.mem ((c : Thread nD τ).loc main_v0_7) = region 7 (m ((c : Thread nD τ).loc main_arg0))
      ∧ r.2.mem ((c : Thread nD τ).loc main_arg0) = m ((c : Thread nD τ).loc main_arg0) := by
  have h := Cert.Kernel.Regions.run (F := F) m ρ
  rw [defs_eq] at h
  exact h

end Cert.KernelIdeal.Regions

end
-- ==== Proof.Take.lean ====
/- What taking sixteen consecutive channels by a list of positions computes. The reference prints such a take as: wrap
   negative positions, lay the positions as a column, check each against the axis, gather, and fill the entries whose
   position failed the check. The positions here are `16 k … 16 k + 15`, which need no wrapping and pass every check, so the
   whole is region `k`. Stated over literal shapes, free of either program. -/
module

public import proofs.«01_k».proof.Proof.Region
public import Idealize.ShloMosaic.Lib.StableHlo.Predicate

@[expose] public section

noncomputable section

namespace Cert.Region

open Idealize.ShloMosaic Idealize.ShloMosaic.ValueIdx

/-- The shape of a list of sixteen positions. -/
abbrev Row : Shape := ⟨1, ![16]⟩
/-- The shape of the list laid as a column. -/
abbrev Column : Shape := ⟨2, ![16, 1]⟩
/-- The shape of a scalar. -/
abbrev Scalar : Shape := ⟨0, ![]⟩

/-- The word for channel `q` of region `k`. -/
def word (k : Fin 8) (q : Nat) : BitVec 32 := BitVec.ofNat 32 (16 * k.val + q)

/-- Such a word is not negative, so the wrap leaves it. -/
theorem word_wrap : ∀ (k : Fin 8) (q : Nat), q < 16 → IntOp.cmpi .slt (word k q) 0#32 = 0#1 := by decide +kernel
/-- Such a word passes the check against the axis's first and last position. -/
theorem word_check : ∀ (k : Fin 8) (q : Nat), q < 16 →
    IntOp.andi (IntOp.cmpi .sge (word k q) 0#32) (IntOp.cmpi .sle (word k q) 127#32) = 1#1 := by decide +kernel
/-- Such a word read as a signed integer is the channel. -/
theorem word_toInt (k : Fin 8) (q : Nat) (hq : q < 16) : (word k q).toInt.toNat = 16 * k.val + q := by
  unfold word
  rw [StableHlo.Predicate.toInt_ofNat_small _ (by omega)]
  exact Int.toNat_natCast _

/-- The column that the reference makes of region `k`'s positions, wrapped: row `q` holds the word for channel `q`. -/
theorem column_eq (k : Fin 8) (p z n : IVec Row 32) (hp : ∀ i : Row.Idx, p i = word k (i 0).val) (hz : ∀ i, z i = 0#32)
    (h : Row.BroadcastsInDim Column ![0]) (i : Column.Idx) :
    broadcastInDim Column ![0] h (select (cmpi .slt p z) (addi p n) p) i = word k (i 0).val := by
  have e : ∀ j : Row.Idx, select (cmpi .slt p z) (addi p n) p j = word k (j 0).val := fun j => by
    show (if IntOp.cmpi .slt (p j) (z j) = 1#1 then _ else p j) = _
    rw [hp, hz, word_wrap k _ (j 0).isLt]; rfl
  simp only [broadcastInDim, e]
  rfl

/-- The conjunction of bits that are all 1 is 1. -/
theorem reduce_ones {axes : List (Fin Column.rank)} (x : IVec Column 1) (v : IVec Scalar 1) (h : Column.ReducesTo axes Row)
    (hu : 0 < Scalar.numel) (hx : ∀ i, x i = 1#1) (hv : ∀ i, v i = 1#1) (j : Row.Idx) :
    Host.reduce IntOp.andi x v h hu j = 1#1 := by
  unfold Host.reduce
  rw [hv]
  induction ((List.finRange Column.numel).filter fun n => h.drop (Column.rowMajor.symm n) = j) with
  | nil => rfl
  | cons a l ih => rw [List.foldl_cons, hx]; exact ih

/-- A gather along the channels, one channel per row of the column `idx`: with region `k`'s positions in the column it
    reads region `k`. The equations on `d` are the printed dimension numbers. -/
theorem gather_eq {α : Type} (k : Fin 8) (d : GatherDims Whole Column Part) (hoff : d.offsetDims = [0, 2])
    (hcoll : d.collapsedSliceDims = [1]) (hob : d.operandBatchingDims = []) (hsim : d.startIndexMap = [1])
    (hivd : d.indexVectorDim = 1) (x : Whole.Idx → α) (idx : IVec Column 32)
    (hidx : ∀ i : Column.Idx, idx i = word k (i 0).val) : Host.gather d x idx = region k x := by
  obtain ⟨od, cd, ob, sb, sm, iv, sl, wf⟩ := d
  dsimp only at hoff hcoll hob hsim hivd
  subst hoff hcoll hob hsim hivd
  funext j
  refine eq_region k x j _ ?_ ?_ ?_
  · exact Nat.zero_add _
  · have hsl : sl 1 = 1 := GatherDims.slice_collapsed ⟨[0, 2], [1], [], sb, [1], 1, sl, wf⟩ 1 (List.mem_singleton.mpr rfl)
    have e : ∀ i : Column.Idx, (i 0).val = (j 1).val →
        min (idx i).toInt.toNat (128 - sl 1) = 16 * k.val + (j 1).val := fun i hi => by
      have hj : (j 1).val < 16 := (j 1).isLt
      rw [hidx, hi, word_toInt k _ hj, hsl]
      omega
    exact e _ rfl
  · exact Nat.zero_add _

/-- The take as the reference prints it — the gathered entries where the check passes, `fill` elsewhere — is region `k`
    when the column holds region `k`'s positions. -/
theorem take_eq {α : Type} (k : Fin 8) (d : GatherDims Whole Column Part) (hoff : d.offsetDims = [0, 2])
    (hcoll : d.collapsedSliceDims = [1]) (hob : d.operandBatchingDims = []) (hsim : d.startIndexMap = [1])
    (hivd : d.indexVectorDim = 1) (x : Whole.Idx → α) (fill : Part.Idx → α) (idx lo hi : IVec Column 32) (v : IVec Scalar 1)
    {axes : List (Fin Column.rank)} (hr : Column.ReducesTo axes Row) (hu : 0 < Scalar.numel)
    (hb : Row.BroadcastsInDim Part ![1]) (hidx : ∀ i : Column.Idx, idx i = word k (i 0).val) (hlo : ∀ i, lo i = 0#32)
    (hhi : ∀ i, hi i = 127#32) (hv : ∀ i, v i = 1#1) :
    select (broadcastInDim Part ![1] hb (Host.reduce IntOp.andi (andi (cmpi .sge idx lo) (cmpi .sle idx hi)) v hr hu))
      (Host.gather d x idx) fill = region k x := by
  rw [gather_eq k d hoff hcoll hob hsim hivd x idx hidx]
  funext j
  have hc : ∀ i, andi (cmpi .sge idx lo) (cmpi .sle idx hi) i = 1#1 := fun i => by
    show IntOp.andi (IntOp.cmpi .sge (idx i) (lo i)) (IntOp.cmpi .sle (idx i) (hi i)) = 1#1
    rw [hidx, hlo, hhi, word_check k _ (i 0).isLt]
  show (if Host.reduce IntOp.andi _ v hr hu _ = 1#1 then region k x j else fill j) = _
  rw [reduce_ones _ v hr hu hc hv, if_pos rfl]

end Cert.Region

end
-- ==== Proof.ReferenceRegions.lean ====
/- The reference's eight results. Each is one take by a literal list of sixteen positions: list `k` holds the channels
   `16 k … 16 k + 15`, so result `k` is region `k` of the argument. -/
module

public import proofs.«01_k».proof.Proof.Take
public import proofs.«01_k».proof.Proof.Gen.Reference.Run
public import Idealize.ShloMosaic.Lib.Pointwise.Reshape

@[expose] public section

noncomputable section

namespace Cert.Reference.Regions

open Cert.Reference Cert.Reference.Gen Cert.Region Idealize.ShloMosaic Idealize.ShloMosaic.TcCoe Idealize.SL.Sem

variable {F : FTy → Type} [FloatOps F]

/-- The reference's take of `x` by the positions `p`: negative positions wrapped, the positions laid as a column, each
    checked against the axis, the channels gathered, and the entries of a position out of range filled with a NaN. -/
def take (x : Vec F S1024x128x256 .f32) (p : IVec S16 32) : Vec F S1024x16x256 .f32 :=
  let col : IVec S16x1 32 := broadcastInDim S16x1 ![0] bcast_S16_S16x1_0
    (select (cmpi .slt p (broadcastInDim S16 ![] bcast_S_S16 (constantI S_ 32 0#32)))
      (addi p (broadcastInDim S16 ![] bcast_S_S16 (constantI S_ 32 128#32))) p)
  select (broadcastInDim S1024x16x256 ![1] bcast_S16_S1024x16x256_1
      (Host.reduce IntOp.andi (andi (cmpi .sge col (broadcastInDim S16x1 ![] bcast_S_S16x1 (constantI S_ 32 0#32)))
        (cmpi .sle col (broadcastInDim S16x1 ![0, 1] bcast_S1x1_S16x1_0_1 (broadcastInDim S1x1 ![1] bcast_S1_S1x1_1 (constantI S1 32 127#32)))))
        (constantI S_ 1 1#1) reducesTo_S16x1_S16_d1 h_S_))
    (Host.gather gather_S1024x128x256_S16x1_S1024x16x256_02_1_n_n_1_1_10241256 x col)
    (broadcastInDim S1024x16x256 ![] bcast_S_S1024x16x256 (constant S_ .f32 0x7FC00000#32))

/-- The take by a literal list that holds the channels of region `k` is region `k`. -/
theorem take_list (k : Fin 8) (l : Fin 16 → BitVec 32) (hl : ∀ q : Fin 16, l q = word k q.val) (x : Vec F S1024x128x256 .f32) :
    take x (fun i => l (S16.rowMajor i)) = region k x :=
  take_eq k gather_S1024x128x256_S16x1_S1024x16x256_02_1_n_n_1_1_10241256 rfl rfl rfl rfl rfl x _ _ _ _ _ _ _ _
    (column_eq k _ _ _ (fun i => (hl _).trans (congrArg (word k) (rowMajor_val1 i))) (fun _ => rfl) _)
    (fun _ => rfl) (fun _ => rfl) (fun _ => rfl)

/-- Every run of the reference from a memory with all semaphores at zero ends with each result `k` holding region `k` of
    the argument, and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c : Thread nD τ).loc main_v0) = region 0 (m ((c : Thread nD τ).loc main_arg0))
      ∧ r.2.mem ((c : Thread nD τ).loc main_v1) = region 1 (m ((c : Thread nD τ).loc main_arg0))
      ∧ r.2.mem ((c : Thread nD τ).loc main_v2) = region 2 (m ((c : Thread nD τ).loc main_arg0))
      ∧ r.2.mem ((c : Thread nD τ).loc main_v3) = region 3 (m ((c : Thread nD τ).loc main_arg0))
      ∧ r.2.mem ((c : Thread nD τ).loc main_v4) = region 4 (m ((c : Thread nD τ).loc main_arg0))
      ∧ r.2.mem ((c : Thread nD τ).loc main_v5) = region 5 (m ((c : Thread nD τ).loc main_arg0))
      ∧ r.2.mem ((c : Thread nD τ).loc main_v6) = region 6 (m ((c : Thread nD τ).loc main_arg0))
      ∧ r.2.mem ((c : Thread nD τ).loc main_v7) = region 7 (m ((c : Thread nD τ).loc main_arg0))
      ∧ r.2.mem ((c : Thread nD τ).loc main_arg0) = m ((c : Thread nD τ).loc main_arg0) :=
  (θ_run defs _ _).mono (fun _ h c => by
      obtain ⟨h0, h1, h2, h3, h4, h5, h6, h7, ha⟩ := h c
      exact ⟨h0.trans (take_list 0 lit0 (by decide) _), h1.trans (take_list 1 lit1 (by decide) _),
        h2.trans (take_list 2 lit2 (by decide) _), h3.trans (take_list 3 lit3 (by decide) _),
        h4.trans (take_list 4 lit4 (by decide) _), h5.trans (take_list 5 lit5 (by decide) _),
        h6.trans (take_list 6 lit6 (by decide) _), h7.trans (take_list 7 lit7 (by decide) _), ha⟩)
    (Value.run m ρ)

end Cert.Reference.Regions

end
-- ==== Proof.ReferenceIdealRegions.lean ====
/- The reals reference's eight results. The idealization rewrote no operation of the reference, so the reals
   reference is the same program and its results are the reference's. -/
module

public import proofs.«01_k».proof.Proof.ReferenceRegions
public import proofs.«01_k».proof.Proof.Gen.ReferenceIdeal

@[expose] public section

noncomputable section

namespace Cert.ReferenceIdeal.Regions

open Cert.ReferenceIdeal Cert.Region Idealize.ShloMosaic Idealize.ShloMosaic.TcCoe Idealize.SL.Sem

variable {F : FTy → Type} [FloatOps F]

/-- Every run of the reals reference from a memory with all semaphores at zero ends with each result `k` holding region `k`
    of the argument, and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c : Thread nD τ).loc main_v0) = region 0 (m ((c : Thread nD τ).loc main_arg0))
      ∧ r.2.mem ((c : Thread nD τ).loc main_v1) = region 1 (m ((c : Thread nD τ).loc main_arg0))
      ∧ r.2.mem ((c : Thread nD τ).loc main_v2) = region 2 (m ((c : Thread nD τ).loc main_arg0))
      ∧ r.2.mem ((c : Thread nD τ).loc main_v3) = region 3 (m ((c : Thread nD τ).loc main_arg0))
      ∧ r.2.mem ((c : Thread nD τ).loc main_v4) = region 4 (m ((c : Thread nD τ).loc main_arg0))
      ∧ r.2.mem ((c : Thread nD τ).loc main_v5) = region 5 (m ((c : Thread nD τ).loc main_arg0))
      ∧ r.2.mem ((c : Thread nD τ).loc main_v6) = region 6 (m ((c : Thread nD τ).loc main_arg0))
      ∧ r.2.mem ((c : Thread nD τ).loc main_v7) = region 7 (m ((c : Thread nD τ).loc main_arg0))
      ∧ r.2.mem ((c : Thread nD τ).loc main_arg0) = m ((c : Thread nD τ).loc main_arg0) :=
  Cert.Reference.Regions.run (F := F) m ρ

end Cert.ReferenceIdeal.Regions

end
-- ==== Proof.lean ====
module

public import proofs.«01_k».proof.Defs
public import proofs.«01_k».proof.Proof.Gen.Kernel.Frame
public import proofs.«01_k».proof.Proof.Gen.KernelIdeal.Frame
public import proofs.«01_k».proof.Proof.KernelRegions
public import proofs.«01_k».proof.Proof.KernelIdealRegions
public import proofs.«01_k».proof.Proof.ReferenceRegions
public import proofs.«01_k».proof.Proof.ReferenceIdealRegions
public import Idealize.ShloMosaic.Lib.Quiescent

@[expose] public section

noncomputable section

namespace Cert.Proof

open Idealize.ShloMosaic Idealize.ShloMosaic.TcCoe Idealize.SL.Sem Cert.Region

/-- The reference ends with its argument unchanged and no semaphore raised: it declares no semaphore. -/
theorem frame_reference : Cert.quiescent_Reference (hReference := Cert.Reference.Gen.facts) := fun m g _ =>
  (θ_run _ _ _).mono (fun r h => ⟨fun c => (h c).2.2.2.2.2.2.2.2, sem_eq_zero_of_no_sems (by decide) r.2⟩)
    (Cert.Reference.Regions.run m g)

/-- So does the reals reference. -/
theorem frame_reference_ideal : Cert.quiescent_ReferenceIdeal (hReferenceIdeal := Cert.ReferenceIdeal.Gen.facts) := fun m g _ =>
  (θ_run _ _ _).mono (fun r h => ⟨fun c => (h c).2.2.2.2.2.2.2.2, sem_eq_zero_of_no_sems (by decide) r.2⟩)
    (Cert.ReferenceIdeal.Regions.run m g)

/-- The reals kernel and the reals reference, on equal arguments, end with the same eight arrays: result `k` is region `k`. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨_, _, _, _, _, _, _, _, Cert.KernelIdeal.Regions.run m g,
    (θ_run _ _ _).mono (fun r h c => ?_) (Cert.ReferenceIdeal.Regions.run m' g')⟩
  have hc := h c
  rw [hagree c] at hc ⊢
  exact hc

/-- The kernel and the reference, on equal arguments, end with the same eight arrays bit for bit. -/
theorem bitexact : Cert.bitexact_Kernel_Reference (hKernel := Cert.Kernel.Gen.facts)
    (hReference := Cert.Reference.Gen.facts) := by
  intro m g m' g' _ hagree
  refine ⟨_, _, _, _, _, _, _, _, Cert.Kernel.Regions.run m g,
    (θ_run _ _ _).mono (fun r h c => ?_) (Cert.Reference.Regions.run m' g')⟩
  have hc := h c
  rw [hagree c] at hc ⊢
  exact hc

/-- Every claim of the certificate. -/
theorem claim : Cert.Claim :=
  ⟨Cert.Kernel.Gen.facts, Cert.KernelIdeal.Gen.facts, Cert.Reference.Gen.facts, Cert.ReferenceIdeal.Gen.facts,
    fun m g _ => Cert.Kernel.Gen.frame m g, fun m g _ => Cert.KernelIdeal.Gen.frame m g, frame_reference,
    frame_reference_ideal, trivial, algebraic, bitexact⟩

end Cert.Proof

end
